-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S64x1 : Shape := ⟨2, ![64, 1]⟩
abbrev S4096x1 : Shape := ⟨2, ![4096, 1]⟩
abbrev S4096x128 : Shape := ⟨2, ![4096, 128]⟩
abbrev S32x128x128 : Shape := ⟨3, ![32, 128, 128]⟩
abbrev S32x128 : Shape := ⟨2, ![32, 128]⟩
abbrev S32x1 : Shape := ⟨2, ![32, 1]⟩
abbrev S32x1x128 : Shape := ⟨3, ![32, 1, 128]⟩
abbrev S4096 : Shape := ⟨1, ![4096]⟩
abbrev S4096x4096 : Shape := ⟨2, ![4096, 4096]⟩

abbrev nBuf : Space → Nat
  | .hbm => 3
  | .vmem => 3
  | .smem => 0
  | _ => 0

abbrev bufTy : (tb : Table) → Fin (tcTables nBuf tb) → BufTy
  | .hbm, ⟨0, _⟩ => ⟨S4096x64, .f32⟩
  | .hbm, ⟨1, _⟩ => ⟨S64x1, .f32⟩
  | .hbm, ⟨2, _⟩ => ⟨S4096x64, .f32⟩
  | .local _ .vmem, ⟨0, _⟩ => ⟨S4096x64, .f32⟩
  | .local _ .vmem, ⟨1, _⟩ => ⟨S64x1, .f32⟩
  | .local _ .vmem, ⟨2, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x64 : Shape := ⟨2, ![4096, 64]⟩
abbrev S64x1 : Shape := ⟨2, ![64, 1]⟩
abbrev S4096x1 : Shape := ⟨2, ![4096, 1]⟩
abbrev S_ : Shape := ⟨0, ![]⟩
abbrev S4096 : Shape := ⟨1, ![4096]⟩
abbrev S1 : Shape := ⟨1, ![1]⟩
abbrev S4095 : Shape := ⟨1, ![4095]⟩
abbrev S4096x4096 : Shape := ⟨2, ![4096, 4096]⟩
abbrev S4096x2 : Shape := ⟨2, ![4096, 2]⟩

abbrev nBuf : Space → Nat
  | .hbm => 75
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x1, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S_, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .i32⟩
  | .hbm, ⟨17, _⟩ => ⟨S_, .i32⟩
  | .hbm, ⟨18, _⟩ => ⟨S1, .i32⟩
  | .hbm, ⟨19, _⟩ => ⟨S4095, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .f32⟩
  | .hbm, ⟨37, _⟩ => ⟨S4096x4096, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x1, .i32⟩
  | .hbm, ⟨54, _⟩ => ⟨S4096x2, .i32⟩
  | .hbm, ⟨55, _⟩ => ⟨S4096x4096, .f32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x1, .i32⟩
  | .hbm, ⟨72, _⟩ => ⟨S4096x2, .i32⟩
  | .hbm, ⟨73, _⟩ => ⟨S4096x4096, .f32⟩
  | .hbm, ⟨74, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Proof.Prefix.lean ====
/- Prefix sums of a real sequence by repeated doubling: pure arithmetic, no program.

   `win f w n` sums the last `w` entries of `f` up to and including entry `n`. One doubling step adds to each entry the
   window sum `w` places below it, which makes windows of `w + w` (`win_double`); once the window covers everything up to
   `n`, it is the prefix sum (`win_full`). A sequence cut into blocks of `m` has as its prefix sum the sum of the whole
   blocks before, and the prefix inside the block (`pre_block`). -/
module

public import Idealize.ShloMosaic.PureOps.Ideal

@[expose] public section

noncomputable section

namespace Cert.Warp

open scoped BigOperators

/-- The sum of the first `n` entries. -/
def pre (f : ℕ → ℝ) (n : ℕ) : ℝ := ∑ k ∈ Finset.range n, f k

/-- The sum of the `w` entries that end at entry `n`; entries below zero count as 0. -/
def win (f : ℕ → ℝ) (w n : ℕ) : ℝ := ∑ k ∈ Finset.range w, if k ≤ n then f (n - k) else 0

theorem pre_succ (f : ℕ → ℝ) (n : ℕ) : pre f (n + 1) = pre f n + f n := Finset.sum_range_succ f n

/-- A window of one entry is that entry. -/
theorem win_one (f : ℕ → ℝ) (n : ℕ) : win f 1 n = f n := by
  simp [win]

/-- A window twice as wide is the window, plus the one that ends where it starts. -/
theorem win_double (f : ℕ → ℝ) (w n : ℕ) :
    win f (w + w) n = win f w n + (if w ≤ n then win f w (n - w) else 0) := by
  unfold win
  rw [Finset.sum_range_add]
  congr 1
  split
  · rename_i h
    refine Finset.sum_congr rfl fun k _ => ?_
    by_cases hk : k ≤ n - w
    · rw [if_pos hk, if_pos (by omega), show n - (w + k) = n - w - k by omega]
    · rw [if_neg hk, if_neg (by omega)]
  · rename_i h
    exact Finset.sum_eq_zero fun k _ => if_neg (by omega)

/-- A window that reaches back to entry 0 is the prefix sum. -/
theorem win_full (f : ℕ → ℝ) (w n : ℕ) (h : n < w) : win f w n = pre f (n + 1) := by
  unfold win pre
  rw [← Finset.sum_subset (s₁ := Finset.range (n + 1)) (fun k hk => by simp only [Finset.mem_range] at *; omega)
    (fun k _ hk => if_neg (by simp only [Finset.mem_range] at hk; omega)), ← Finset.sum_range_reflect f (n + 1)]
  refine Finset.sum_congr rfl fun k hk => ?_
  have hk' := Finset.mem_range.1 hk
  rw [if_pos (by omega), show n + 1 - 1 - k = n - k by omega]

/-- The sum of `r` whole blocks of `m` entries is the prefix sum of `m * r` entries. -/
theorem pre_blocks (f : ℕ → ℝ) (m r : ℕ) : pre (fun q => pre (fun k => f (m * q + k)) m) r = pre f (m * r) := by
  induction r with
  | zero => simp [pre]
  | succ r ih =>
    rw [pre_succ, ih, Nat.mul_succ]
    exact (Finset.sum_range_add f (m * r) m).symm

/-- Entry `l` of block `r`: the whole blocks before, and the prefix inside the block. -/
theorem pre_block (f : ℕ → ℝ) (m r l : ℕ) :
    pre (fun k => f (m * r + k)) l + pre (fun q => pre (fun k => f (m * q + k)) m) r = pre f (m * r + l) := by
  rw [pre_blocks, add_comm]
  exact (Finset.sum_range_add f (m * r) l).symm

/-- A prefix sum of numbers in `[0, 1]` lies between 0 and the number of entries summed. -/
theorem pre_bounds (f : ℕ → ℝ) (h : ∀ k, 0 ≤ f k ∧ f k ≤ 1) (n : ℕ) : 0 ≤ pre f n ∧ pre f n ≤ n := by
  induction n with
  | zero => simp [pre]
  | succ n ih =>
    rw [pre_succ]
    have := h n
    push_cast
    constructor <;> linarith

/-- The sum of a family over `Fin n` as a sum over the numbers below `n`. -/
theorem pre_eq_sum_fin (f : ℕ → ℝ) (n : ℕ) : pre f n = ∑ k : Fin n, f k.val := (Fin.sum_univ_eq_sum_range f n).symm

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Warp

end
-- ==== Proof.Gate.lean ====
/- The quantities the kernel and the reference both compute, as plain numbers: the gate of each row, its prefix sums, the
   row each entry is warped to, and how much of it stays there and how much goes to the row before. -/
module

public import proofs.«01_k».proof.Proof.Prefix
public import Idealize.ShloMosaic.Lib.Pointwise

@[expose] public section

noncomputable section

namespace Cert.Warp

open Idealize.ShloMosaic
open scoped BigOperators

/-- The logistic function of an extended real, as a real number. -/
def gate (t : EReal) : ℝ := (Ideal.logistic t).toReal

/-- The logistic function is real everywhere, the infinities included, and lies between 0 and 1. -/
theorem gate_spec (t : EReal) : Ideal.logistic t = (gate t : EReal) ∧ 0 ≤ gate t ∧ gate t ≤ 1 := by
  unfold gate
  induction t using EReal.rec with
  | bot => rw [Ideal.logistic_bot]; simp
  | top => rw [Ideal.logistic_top]; simp
  | coe r =>
    rw [Ideal.logistic_coe, EReal.toReal_coe]
    have := Real.exp_pos (-r)
    exact ⟨rfl, by positivity, inv_le_one_of_one_le₀ (by linarith)⟩

/-- The gate of row `n`: the logistic function of the row's product with the weights; 0 beyond the last row. -/
def act (x : FVec Ideal (⟨2, ![4096, 64]⟩ : Shape) .f32) (w : FVec Ideal (⟨2, ![64, 1]⟩ : Shape) .f32) (n : ℕ) : ℝ :=
  if h : n < 4096 then gate (∑ k, x (ix2 ⟨n, h⟩ k) * w (ix2 k 0)) else 0

/-- Every gate lies between 0 and 1. -/
theorem act_bounds (x : FVec Ideal (⟨2, ![4096, 64]⟩ : Shape) .f32) (w : FVec Ideal (⟨2, ![64, 1]⟩ : Shape) .f32) (n : ℕ) :
    0 ≤ act x w n ∧ act x w n ≤ 1 := by
  unfold act
  split
  · exact (gate_spec _).2
  · exact ⟨le_refl 0, zero_le_one⟩

/-- A row's gate is the logistic function of its product with the weights. -/
theorem act_eq (x : FVec Ideal (⟨2, ![4096, 64]⟩ : Shape) .f32) (w : FVec Ideal (⟨2, ![64, 1]⟩ : Shape) .f32)
    (n : Fin 4096) : Ideal.logistic (∑ k, x (ix2 n k) * w (ix2 k 0)) = (act x w n.val : EReal) := by
  rw [act, dif_pos n.isLt]
  exact (gate_spec _).1

/-- The row entry `n` is warped to: the whole part of the prefix sum that includes it. -/
def row (f : ℕ → ℝ) (n : ℕ) : ℕ := ⌊pre f (n + 1)⌋₊

/-- Entry `n` crosses into a new row. -/
def crosses (f : ℕ → ℝ) (n : ℕ) : Prop := ⌊pre f (n + 1)⌋₊ ≠ ⌊pre f n⌋₊

instance (f : ℕ → ℝ) (n : ℕ) : Decidable (crosses f n) := inferInstanceAs (Decidable (_ ≠ _))

/-- The weight with which entry `n` enters its row. -/
def stay (f : ℕ → ℝ) (n : ℕ) : ℝ := if crosses f n then pre f (n + 1) - (row f n : ℝ) else f n

/-- The weight with which entry `n` enters the row before: the rest of its gate. -/
def rest (f : ℕ → ℝ) (n : ℕ) : ℝ := f n - stay f n

/-- An entry that crosses no row leaves nothing for the row before. -/
theorem rest_of_not_crosses {f : ℕ → ℝ} {n : ℕ} (h : ¬crosses f n) : rest f n = 0 := by
  rw [rest, stay, if_neg h, sub_self]

/-- An entry that crosses is warped to a row that has one before it. -/
theorem row_pos_of_crosses {f : ℕ → ℝ} (hf : ∀ k, 0 ≤ f k ∧ f k ≤ 1) {n : ℕ} (h : crosses f n) : 0 < row f n := by
  have hle : ⌊pre f n⌋₊ ≤ ⌊pre f (n + 1)⌋₊ := Nat.floor_le_floor (by rw [pre_succ]; linarith [(hf n).1])
  unfold crosses at h
  unfold row
  omega

/-- The prefix sums stay between 0 and the number of rows. -/
theorem pre_act_bounds (x : FVec Ideal (⟨2, ![4096, 64]⟩ : Shape) .f32)
    (w : FVec Ideal (⟨2, ![64, 1]⟩ : Shape) .f32) (n : ℕ) (hn : n ≤ 4096) :
    0 ≤ pre (act x w) n ∧ pre (act x w) n ≤ 4096 := by
  have h := pre_bounds (act x w) (act_bounds x w) n
  have hn' : (n : ℝ) ≤ 4096 := by exact_mod_cast hn
  exact ⟨h.1, h.2.trans hn'⟩

/-- Every entry is warped to a row up to 4096. -/
theorem row_le (x : FVec Ideal (⟨2, ![4096, 64]⟩ : Shape) .f32)
    (w : FVec Ideal (⟨2, ![64, 1]⟩ : Shape) .f32) (n : Fin 4096) : row (act x w) n.val ≤ 4096 :=
  Nat.floor_le_of_le (by exact_mod_cast (pre_act_bounds x w (n.val + 1) (by omega)).2)

/-- What entry `n` puts into place `d` of row `i` when the row of inputs holds `y` there. -/
def share (f : ℕ → ℝ) (i n : ℕ) (y : EReal) : EReal :=
  (if row f n = i then (stay f n : EReal) * y else 0) + (if row f n = i + 1 then (rest f n : EReal) * y else 0)

/-- A choice by a comparison bit is a choice by the comparison. -/
theorem select_ofBool {α : Type} (p : Prop) [Decidable p] (a b : α) :
    Scalar.select (BitVec.ofBool (decide p)) a b = if p then a else b := by
  by_cases h : p <;> simp [Scalar.select, h]

/-- The 32-bit word of the whole part of a number between 0 and 4096 is that of its whole part as a natural number. -/
theorem word_floor (r : ℝ) (h0 : 0 ≤ r) (h1 : r ≤ 4096) :
    Ideal.fptosi 32 (Ideal.liftRound Int.floor (r : EReal)) = BitVec.ofNat 32 ⌊r⌋₊ := by
  have hle : ⌊r⌋₊ ≤ 4096 := Nat.floor_le_of_le (by exact_mod_cast h1)
  rw [Ideal.liftRound_coe, ← Int.natCast_floor_eq_floor h0]
  unfold Ideal.fptosi
  rw [Ideal.toIntClamped_coe]
  simp
  rw [min_eq_right (by omega)]
  simp

/-- The whole part of a nonnegative number is its whole part as a natural number. -/
theorem floor_coe (r : ℝ) (h0 : 0 ≤ r) : Ideal.liftRound Int.floor (r : EReal) = (((⌊r⌋₊ : ℕ) : ℝ) : EReal) := by
  rw [Ideal.liftRound_coe, ← Int.natCast_floor_eq_floor h0]
  simp

/-- The word of a number up to 4096 reads, signed, as that number. -/
theorem toInt_word (n : ℕ) (h : n ≤ 4096) : (BitVec.ofNat 32 n).toInt = (n : ℤ) := by
  rw [BitVec.toInt_eq_toNat_cond, BitVec.toNat_ofNat, Nat.mod_eq_of_lt (by omega), if_pos (by omega)]

/-- Words of numbers up to 4096 are equal when the numbers are. -/
theorem word_inj {a b : ℕ} (ha : a ≤ 4096) (hb : b ≤ 4096) : BitVec.ofNat 32 a = BitVec.ofNat 32 b ↔ a = b := by
  refine ⟨fun h => ?_, fun h => by rw [h]⟩
  have := congrArg BitVec.toInt h
  rw [toInt_word a ha, toInt_word b hb] at this
  exact_mod_cast this

end Cert.Warp

end
-- ==== Proof.Scan.lean ====
/- The kernel's two scans by doubling, the one along the lanes of each row and the one down the row totals: each step turns
   windows of `w` entries into windows of `w + w`. -/
module

public import proofs.«01_k».proof.Proof.Gate
public import proofs.«01_k».proof.Proof.Gen.KernelIdeal.Value
public import Idealize.ShloMosaic.Lib.WordCmp

@[expose] public section

noncomputable section

namespace Cert.Warp

open Idealize.ShloMosaic Cert.KernelIdeal Cert.KernelIdeal.Gen
open scoped BigOperators

/-- One step of the lane scan: each entry plus the one `s` lanes before it, where there is one. -/
def laneStep (s : BitVec 32) (u : FVec Ideal S32x128 .f32) : FVec Ideal S32x128 .f32 :=
  addf u (select (cmpi .sge (iota .tc S32x128 32 [1] iota_S32x128_d1_w32) (broadcast S32x128 s))
    (dynamicRotate 1 s none u rotates_S32x128_d1) (broadcast S32x128 (Scalar.ofBits .f32 0x00000000#32)))

/-- One step of the scan down the row totals: each total plus the one `s` rows before it, where there is one. -/
def rowStep (s : BitVec 32) (u : FVec Ideal S32x1 .f32) : FVec Ideal S32x1 .f32 :=
  addf u (select (cmpi .sge (iota .tc S32x1 32 [0] iota_S32x1_d0_w32) (broadcast S32x1 s))
    (dynamicRotate 0 s none u rotates_S32x1_d0) (broadcast S32x1 (Scalar.ofBits .f32 0x00000000#32)))

/-- A lane step on windows of `w` entries gives windows of `w + w`. -/
theorem laneStep_win (g : ℕ → ℕ → ℝ) (w : ℕ) (hw : w < 128) (u : FVec Ideal S32x128 .f32)
    (hu : ∀ (r : Fin 32) (l : Fin 128), u (ix2 r l) = ((win (g r.val) w l.val : ℝ) : EReal)) (r : Fin 32) (l : Fin 128) :
    laneStep (BitVec.ofNat 32 w) u (ix2 r l) = ((win (g r.val) (w + w) l.val : ℝ) : EReal) := by
  have hl := l.isLt
  have hrot : dynamicRotate 1 (BitVec.ofNat 32 w) none u rotates_S32x128_d1 (ix2 r l)
      = u (ix2 r ⟨(l.val + 128 - w) % 128, Nat.mod_lt _ (by decide)⟩) := by
    unfold dynamicRotate
    refine congrArg u (funext fun b => ?_)
    match b with
    | ⟨0, _⟩ => rfl
    | ⟨1, _⟩ =>
      refine Fin.ext ?_
      show (l.val + 128 - ((BitVec.ofNat 32 w).toNat + 0) % 128) % 128 = (l.val + 128 - w) % 128
      rw [BitVec.toNat_ofNat, Nat.mod_eq_of_lt (show w < 2 ^ 32 by omega), Nat.add_zero]
      omega
  have key : laneStep (BitVec.ofNat 32 w) u (ix2 r l) = u (ix2 r l)
      + Scalar.select (IntOp.cmpi .sge (BitVec.ofNat 32 l.val) (BitVec.ofNat 32 w))
        (dynamicRotate 1 (BitVec.ofNat 32 w) none u rotates_S32x128_d1 (ix2 r l)) 0 := by
    pointwise [laneStep]
  rw [key, hrot, WordCmp.cmpi_sge_ofNat (by omega) (by omega), select_ofBool, hu, hu, win_double, EReal.coe_add]
  congr 1
  by_cases h : w ≤ l.val
  · rw [if_pos h, if_pos h]
    show ((win (g r.val) w ((l.val + 128 - w) % 128) : ℝ) : EReal) = _
    rw [show (l.val + 128 - w) % 128 = l.val - w by omega]
  · rw [if_neg h, if_neg h, EReal.coe_zero]

/-- A step on windows of `w` row totals gives windows of `w + w`. -/
theorem rowStep_win (g : ℕ → ℝ) (w : ℕ) (hw : w < 32) (u : FVec Ideal S32x1 .f32)
    (hu : ∀ r : Fin 32, u (ix2 r 0) = ((win g w r.val : ℝ) : EReal)) (r : Fin 32) :
    rowStep (BitVec.ofNat 32 w) u (ix2 r 0) = ((win g (w + w) r.val : ℝ) : EReal) := by
  have hr := r.isLt
  have hrot : dynamicRotate 0 (BitVec.ofNat 32 w) none u rotates_S32x1_d0 (ix2 r 0)
      = u (ix2 ⟨(r.val + 32 - w) % 32, Nat.mod_lt _ (by decide)⟩ 0) := by
    unfold dynamicRotate
    refine congrArg u (funext fun b => ?_)
    match b with
    | ⟨0, _⟩ =>
      refine Fin.ext ?_
      show (r.val + 32 - ((BitVec.ofNat 32 w).toNat + 0) % 32) % 32 = (r.val + 32 - w) % 32
      rw [BitVec.toNat_ofNat, Nat.mod_eq_of_lt (show w < 2 ^ 32 by omega), Nat.add_zero]
      omega
    | ⟨1, _⟩ => rfl
  have key : rowStep (BitVec.ofNat 32 w) u (ix2 r 0) = u (ix2 r 0)
      + Scalar.select (IntOp.cmpi .sge (BitVec.ofNat 32 r.val) (BitVec.ofNat 32 w))
        (dynamicRotate 0 (BitVec.ofNat 32 w) none u rotates_S32x1_d0 (ix2 r 0)) 0 := by
    pointwise [rowStep]
  rw [key, hrot, WordCmp.cmpi_sge_ofNat (by omega) (by omega), select_ofBool, hu, hu, win_double, EReal.coe_add]
  congr 1
  by_cases h : w ≤ r.val
  · rw [if_pos h, if_pos h]
    show ((win g w ((r.val + 32 - w) % 32) : ℝ) : EReal) = _
    rw [show (r.val + 32 - w) % 32 = r.val - w by omega]
  · rw [if_neg h, if_neg h, EReal.coe_zero]

/-- Seven lane steps: each entry becomes the sum of its row up to and including it. -/
theorem laneScan (g : ℕ → ℕ → ℝ) (u : FVec Ideal S32x128 .f32)
    (hu : ∀ (r : Fin 32) (l : Fin 128), u (ix2 r l) = ((g r.val l.val : ℝ) : EReal)) (r : Fin 32) (l : Fin 128) :
    laneStep 64#32 (laneStep 32#32 (laneStep 16#32 (laneStep 8#32 (laneStep 4#32 (laneStep 2#32 (laneStep 1#32 u)))))) (ix2 r l)
      = ((pre (g r.val) (l.val + 1) : ℝ) : EReal) := by
  rw [← win_full (g r.val) 128 l.val l.isLt]
  exact laneStep_win g 64 (by decide) _ (laneStep_win g 32 (by decide) _ (laneStep_win g 16 (by decide) _
    (laneStep_win g 8 (by decide) _ (laneStep_win g 4 (by decide) _ (laneStep_win g 2 (by decide) _
      (laneStep_win g 1 (by decide) u fun r l => by rw [hu, win_one])))))) r l

/-- Five steps down the row totals: each total becomes the sum of the totals up to and including it. -/
theorem rowScan (g : ℕ → ℝ) (u : FVec Ideal S32x1 .f32) (hu : ∀ r : Fin 32, u (ix2 r 0) = ((g r.val : ℝ) : EReal)) (r : Fin 32) :
    rowStep 16#32 (rowStep 8#32 (rowStep 4#32 (rowStep 2#32 (rowStep 1#32 u)))) (ix2 r 0)
      = ((pre g (r.val + 1) : ℝ) : EReal) := by
  rw [← win_full g 32 r.val r.isLt]
  exact rowStep_win g 16 (by decide) _ (rowStep_win g 8 (by decide) _ (rowStep_win g 4 (by decide) _
    (rowStep_win g 2 (by decide) _ (rowStep_win g 1 (by decide) u fun r => by rw [hu, win_one])))) r

end Cert.Warp

end
-- ==== Proof.Column.lean ====
/- The kernel's values, read at an index: the column of gates, its prefix sums (by way of a table of 32 rows of 128), the two
   columns of weights, the two tables of hits, and the output. -/
module

public import proofs.«01_k».proof.Proof.Scan

@[expose] public section

set_option maxRecDepth 16384

noncomputable section

namespace Cert.Warp

open Idealize.ShloMosaic Cert.KernelIdeal Cert.KernelIdeal.Gen
open scoped BigOperators

/-- The kernel's first column holds the gates. -/
theorem gates_apply (a0 : Vec Ideal S4096x64 .f32) (a1 : Vec Ideal S64x1 .f32) (n : Fin 4096) :
    k0_pay21 a0 a1 (ix2 n 0) = (act a0 a1 n.val : EReal) := by
  have h0 : View.ld a0 r0_0 = a0 := View.ld_unit_zero (S := S4096x64) Cert.KernelIdeal.Value.hz0 _ a0
  have h1 : View.ld a1 r0_1 = a1 := View.ld_unit_zero (S := S64x1) Cert.KernelIdeal.Value.hz1 _ a1
  unfold k0_pay21
  rw [h0, h1, ← act_eq]
  have key : k0_pay2 a0 a1 (ix2 n 0) = Ideal.div 1 (1 + Ideal.exp (0 - ∑ x, a0 (ix2 n x) * a1 (ix2 x 0))) := by
    pointwise [k0_pay2]
  rw [key, zero_sub]
  rfl

/-- The mask of lanes: row `n` of the column sits in lane `n % 128`. -/
theorem lanes_apply (n : Fin 4096) (l : Fin 128) :
    k0_pay3 (F := Ideal) (ix2 n l) = if n.val % 128 = l.val then 1 else 0 := by
  have hn := n.isLt
  have hl := l.isLt
  have key : k0_pay3 (F := Ideal) (ix2 n l)
      = Scalar.select (IntOp.cmpi .eq (IntOp.andi (BitVec.ofNat 32 n.val) 127#32) (BitVec.ofNat 32 l.val)) 1 0 := by
    pointwise [k0_pay3]
  have hand : IntOp.andi (BitVec.ofNat 32 n.val) 127#32 = BitVec.ofNat 32 (n.val % 128) := by
    refine BitVec.eq_of_toNat_eq ?_
    show (BitVec.ofNat 32 n.val &&& 127#32).toNat = _
    rw [BitVec.toNat_and, BitVec.toNat_ofNat, BitVec.toNat_ofNat, BitVec.toNat_ofNat, Nat.mod_eq_of_lt (show n.val < 2 ^ 32 by omega),
      Nat.mod_eq_of_lt (show n.val % 128 < 2 ^ 32 by omega)]
    exact Nat.and_two_pow_sub_one_eq_mod n.val 7
  rw [key, hand, WordCmp.cmpi_eq_ofNat (by omega) (by omega), select_ofBool]

/-- The column laid out as a table: entry `(r, l)` is row `128 * r + l` of the column. -/
def table (a : FVec Ideal S4096x1 .f32) : FVec Ideal S32x128 .f32 :=
  multiReduction .add [1] S32x128 (shapeCast S32x128x128 (mulf (broadcastTo S4096x128 a broadcasts_S4096x1_S4096x128)
    (k0_pay3 (F := Ideal))) shapeCasts_S4096x128_S32x128x128) 0x00000000#32 reduces_S32x128x128_S32x128 (.inl rfl) rfl

/-- A sum in which one term is kept is that term. -/
theorem sum_one {N : ℕ} (f : Fin N → EReal) (k : Fin N) : (∑ x, f x * (if x.val = k.val then 1 else 0)) = f k := by
  rw [Finset.sum_eq_single k (fun x _ hx => by rw [if_neg fun h => hx (Fin.ext h), mul_zero])
    (fun h => absurd (Finset.mem_univ _) h), if_pos rfl, mul_one]

/-- An entry of the table. -/
theorem table_apply (f : ℕ → ℝ) (a : FVec Ideal S4096x1 .f32) (ha : ∀ n : Fin 4096, a (ix2 n 0) = (f n.val : EReal))
    (r : Fin 32) (l : Fin 128) : table a (ix2 r l) = ((f (128 * r.val + l.val) : ℝ) : EReal) := by
  have hr := r.isLt
  have key : table a (ix2 r l) = ∑ x : Fin 128, a (ix2 ⟨r.val * 128 + x.val, by omega⟩ 0)
      * k0_pay3 (F := Ideal) (ix2 ⟨r.val * 128 + x.val, by omega⟩ l) := by
    pointwise [table]
  have hterm : ∀ x : Fin 128, a (ix2 ⟨r.val * 128 + x.val, by omega⟩ 0)
      * k0_pay3 (F := Ideal) (ix2 ⟨r.val * 128 + x.val, by omega⟩ l)
      = ((f (128 * r.val + x.val) : ℝ) : EReal) * (if x.val = l.val then 1 else 0) := fun x => by
    rw [ha, lanes_apply]
    show ((f (r.val * 128 + x.val) : ℝ) : EReal) * (if (r.val * 128 + x.val) % 128 = l.val then 1 else 0) = _
    rw [show (r.val * 128 + x.val) % 128 = x.val by omega, Nat.mul_comm]
  rw [key, Finset.sum_congr rfl fun x _ => hterm x]
  exact sum_one (fun x : Fin 128 => ((f (128 * r.val + x.val) : ℝ) : EReal)) l

/-- After the lane scan, an entry of the table is the prefix sum inside its row. -/
theorem laneSums (a0 : Vec Ideal S4096x64 .f32) (a1 : Vec Ideal S64x1 .f32) (r : Fin 32) (l : Fin 128) :
    k0_pay28 a0 a1 (ix2 r l) = ((pre (fun k => act a0 a1 (128 * r.val + k)) (l.val + 1) : ℝ) : EReal) :=
  laneScan (fun r k => act a0 a1 (128 * r + k)) (table (k0_pay21 a0 a1))
    (table_apply (act a0 a1) (k0_pay21 a0 a1) (gates_apply a0 a1)) r l

/-- The last lane holds the total of the row. -/
theorem rowTotals (a0 : Vec Ideal S4096x64 .f32) (a1 : Vec Ideal S64x1 .f32) (r : Fin 32) :
    k0_pay29 a0 a1 (ix2 r 0) = ((pre (fun k => act a0 a1 (128 * r.val + k)) 128 : ℝ) : EReal) := by
  have key : extractStridedSlice S32x1 ![0, 127] (k0_pay28 a0 a1) slices_S32x128_o0_127_S32x1 (ix2 r 0)
      = k0_pay28 a0 a1 (ix2 r ⟨127, by decide⟩) := by
    pointwise
  exact key.trans (laneSums a0 a1 r ⟨127, by decide⟩)

/-- The scanned row totals. -/
def totals (a0 : Vec Ideal S4096x64 .f32) (a1 : Vec Ideal S64x1 .f32) : FVec Ideal S32x1 .f32 :=
  rowStep 16#32 (rowStep 8#32 (rowStep 4#32 (rowStep 2#32 (rowStep 1#32 (k0_pay29 a0 a1)))))

/-- The table of prefix sums: the scanned rows, each raised by the totals of the rows before it. -/
def sums (a0 : Vec Ideal S4096x64 .f32) (a1 : Vec Ideal S64x1 .f32) : FVec Ideal S32x128 .f32 :=
  addf (k0_pay28 a0 a1) (broadcastTo S32x128 (subf (totals a0 a1) (k0_pay29 a0 a1)) broadcasts_S32x1_S32x128)

/-- An entry of the table of prefix sums. -/
theorem sums_apply (a0 : Vec Ideal S4096x64 .f32) (a1 : Vec Ideal S64x1 .f32) (r : Fin 32) (l : Fin 128) :
    sums a0 a1 (ix2 r l) = ((pre (act a0 a1) (128 * r.val + l.val + 1) : ℝ) : EReal) := by
  have key : sums a0 a1 (ix2 r l) = k0_pay28 a0 a1 (ix2 r l) + (totals a0 a1 (ix2 r 0) - k0_pay29 a0 a1 (ix2 r 0)) := by
    pointwise [sums]
  rw [key, laneSums, rowTotals]
  unfold totals
  rw [rowScan (fun q => pre (fun k => act a0 a1 (128 * q + k)) 128) _ (rowTotals a0 a1) r, ← EReal.coe_sub,
    ← EReal.coe_add, Nat.add_assoc, ← pre_block, pre_succ (fun q => pre (fun k => act a0 a1 (128 * q + k)) 128) r.val,
    add_sub_cancel_right]

/-- The table read back as a column: entry `n` comes from row `n / 128`, lane `n % 128`. -/
def column (v : FVec Ideal S32x128 .f32) : FVec Ideal S4096x1 .f32 :=
  shapeCast S4096x1 (multiReduction .add [1] S4096 (mulf (shapeCast S4096x128 (broadcastTo S32x128x128
    (shapeCast S32x1x128 (shapeCast S32x1x128 v shapeCasts_S32x128_S32x1x128) shapeCasts_S32x1x128_S32x1x128)
    broadcasts_S32x1x128_S32x128x128) shapeCasts_S32x128x128_S4096x128) (k0_pay3 (F := Ideal)))
    0x00000000#32 reduces_S4096x128_S4096 (.inl rfl) rfl) shapeCasts_S4096_S4096x1

/-- An entry of the column read back from a table. -/
theorem column_apply (v : FVec Ideal S32x128 .f32) (n : Fin 4096) :
    column v (ix2 n 0) = v (ix2 ⟨n.val / 128, by omega⟩ ⟨n.val % 128, by omega⟩) := by
  have key : column v (ix2 n 0) = ∑ x : Fin 128, v (ix2 ⟨n.val / 128, by omega⟩ x) * k0_pay3 (F := Ideal) (ix2 n x) := by
    pointwise [column]
  rw [key, ← sum_one (fun x : Fin 128 => v (ix2 ⟨n.val / 128, by omega⟩ x)) ⟨n.val % 128, by omega⟩]
  refine Finset.sum_congr rfl fun x _ => ?_
  rw [lanes_apply]
  simp only [eq_comm]

/-- The kernel's column of prefix sums: entry `n` is the sum of the gates up to and including row `n`. -/
theorem kb_apply (a0 : Vec Ideal S4096x64 .f32) (a1 : Vec Ideal S64x1 .f32) (n : Fin 4096) :
    k0_pay12 (k0_pay22 a0 a1) (k0_pay28 a0 a1) (k0_pay29 a0 a1) (k0_pay27 a0 a1) (k0_pay30 a0 a1) (k0_pay31 a0 a1) (ix2 n 0)
      = ((pre (act a0 a1) (n.val + 1) : ℝ) : EReal) := by
  have key : k0_pay12 (k0_pay22 a0 a1) (k0_pay28 a0 a1) (k0_pay29 a0 a1) (k0_pay27 a0 a1) (k0_pay30 a0 a1) (k0_pay31 a0 a1)
      = column (sums a0 a1) := rfl
  rw [key, column_apply, sums_apply]
  show ((pre (act a0 a1) (128 * (n.val / 128) + n.val % 128 + 1) : ℝ) : EReal) = _
  rw [Nat.div_add_mod]

/-- The kernel's first column of weights. -/
theorem stay_apply (a0 : Vec Ideal S4096x64 .f32) (a1 : Vec Ideal S64x1 .f32) (n : Fin 4096) :
    k0_pay14 (k0_pay21 a0 a1) (k0_pay22 a0 a1) (k0_pay28 a0 a1) (k0_pay29 a0 a1) (k0_pay27 a0 a1) (k0_pay30 a0 a1)
      (k0_pay31 a0 a1) (ix2 n 0) = (stay (act a0 a1) n.val : EReal) := by
  have key : ∀ (v9 : FVec Ideal S4096x1 .f32) (v17 : FVec Ideal S4096x128 .f32) (v64 : FVec Ideal S32x128 .f32)
      (v65 : FVec Ideal S32x1 .f32) (v66 : IVec S32x1 32) (v78 : FVec Ideal S32x1 .f32) (v79 : IVec S32x1 32),
      k0_pay14 v9 v17 v64 v65 v66 v78 v79 (ix2 n 0)
        = if Ideal.liftRound Int.floor (k0_pay12 v17 v64 v65 v66 v78 v79 (ix2 n 0))
              ≠ Ideal.liftRound Int.floor (k0_pay12 v17 v64 v65 v66 v78 v79 (ix2 n 0) - v9 (ix2 n 0)) then
            k0_pay12 v17 v64 v65 v66 v78 v79 (ix2 n 0)
              - Ideal.liftRound Int.floor (k0_pay12 v17 v64 v65 v66 v78 v79 (ix2 n 0))
          else v9 (ix2 n 0) := by
    intro v9 v17 v64 v65 v66 v78 v79
    pointwise [k0_pay14, k0_pay13]
  have h0 := (pre_act_bounds a0 a1 n.val (by omega)).1
  have h1 := (pre_act_bounds a0 a1 (n.val + 1) (by omega)).1
  have hsub : pre (act a0 a1) (n.val + 1) - act a0 a1 n.val = pre (act a0 a1) n.val := by rw [pre_succ, add_sub_cancel_right]
  rw [key, kb_apply, gates_apply, ← EReal.coe_sub, hsub, floor_coe _ h1, floor_coe _ h0, ← EReal.coe_sub]
  have hiff : ((((⌊pre (act a0 a1) (n.val + 1)⌋₊ : ℕ) : ℝ) : EReal) ≠ (((⌊pre (act a0 a1) n.val⌋₊ : ℕ) : ℝ) : EReal))
      ↔ crosses (act a0 a1) n.val := by
    rw [Ne, EReal.coe_eq_coe_iff, Nat.cast_inj]
    rfl
  unfold stay
  by_cases h : crosses (act a0 a1) n.val
  · rw [if_pos (hiff.2 h), if_pos h]
    rfl
  · rw [if_neg fun hc => h (hiff.1 hc), if_neg h]

/-- The kernel's second column of weights. -/
theorem rest_apply (a0 : Vec Ideal S4096x64 .f32) (a1 : Vec Ideal S64x1 .f32) (n : Fin 4096) :
    k0_pay15 (k0_pay21 a0 a1) (k0_pay22 a0 a1) (k0_pay28 a0 a1) (k0_pay29 a0 a1) (k0_pay27 a0 a1) (k0_pay30 a0 a1)
      (k0_pay31 a0 a1) (ix2 n 0) = (rest (act a0 a1) n.val : EReal) := by
  refine Eq.trans (b := k0_pay21 a0 a1 (ix2 n 0) - k0_pay14 (k0_pay21 a0 a1) (k0_pay22 a0 a1) (k0_pay28 a0 a1) (k0_pay29 a0 a1)
    (k0_pay27 a0 a1) (k0_pay30 a0 a1) (k0_pay31 a0 a1) (ix2 n 0)) rfl ?_
  rw [gates_apply, stay_apply, ← EReal.coe_sub]
  rfl

/-- The word of the row that entry `n` is warped to. -/
theorem rowWord_apply (a0 : Vec Ideal S4096x64 .f32) (a1 : Vec Ideal S64x1 .f32) (n : Fin 4096) :
    FloatOps.fptosi (F := Ideal) (φ := .f32) 32 (Ideal.liftRound Int.floor (k0_pay12 (k0_pay22 a0 a1) (k0_pay28 a0 a1) (k0_pay29 a0 a1) (k0_pay27 a0 a1) (k0_pay30 a0 a1) (k0_pay31 a0 a1) (ix2 n 0)))
      = BitVec.ofNat 32 (row (act a0 a1) n.val) := by
  have h := pre_act_bounds a0 a1 (n.val + 1) (by omega)
  rw [kb_apply]
  exact word_floor _ h.1 h.2

/-- The table of the rows hit. -/
theorem hit_apply (a0 : Vec Ideal S4096x64 .f32) (a1 : Vec Ideal S64x1 .f32) (n i : Fin 4096) :
    k0_pay17 (k0_pay22 a0 a1) (k0_pay28 a0 a1) (k0_pay29 a0 a1) (k0_pay27 a0 a1) (k0_pay30 a0 a1) (k0_pay31 a0 a1) (ix2 n i)
      = if row (act a0 a1) n.val = i.val then 1 else 0 := by
  have key : ∀ (v17 : FVec Ideal S4096x128 .f32) (v64 : FVec Ideal S32x128 .f32) (v65 : FVec Ideal S32x1 .f32)
      (v66 : IVec S32x1 32) (v78 : FVec Ideal S32x1 .f32) (v79 : IVec S32x1 32),
      k0_pay17 v17 v64 v65 v66 v78 v79 (ix2 n i)
        = Scalar.select (IntOp.cmpi .eq (FloatOps.fptosi (F := Ideal) (φ := .f32) 32 (Ideal.liftRound Int.floor (k0_pay12 v17 v64 v65 v66 v78 v79 (ix2 n 0))))
            (BitVec.ofNat 32 i.val)) 1 0 := by
    intro v17 v64 v65 v66 v78 v79
    pointwise [k0_pay17, k0_pay16, k0_pay13]
  have hle := row_le a0 a1 n
  rw [key, rowWord_apply, WordCmp.cmpi_eq_ofNat (by omega) (by omega), select_ofBool]

/-- The table of the rows just before those hit. -/
theorem before_apply (a0 : Vec Ideal S4096x64 .f32) (a1 : Vec Ideal S64x1 .f32) (n i : Fin 4096) :
    k0_pay18 (k0_pay22 a0 a1) (k0_pay28 a0 a1) (k0_pay29 a0 a1) (k0_pay27 a0 a1) (k0_pay30 a0 a1) (k0_pay31 a0 a1) (ix2 n i)
      = BitVec.ofBool (decide (row (act a0 a1) n.val = i.val + 1)) := by
  have key : ∀ (v17 : FVec Ideal S4096x128 .f32) (v64 : FVec Ideal S32x128 .f32) (v65 : FVec Ideal S32x1 .f32)
      (v66 : IVec S32x1 32) (v78 : FVec Ideal S32x1 .f32) (v79 : IVec S32x1 32),
      k0_pay18 v17 v64 v65 v66 v78 v79 (ix2 n i)
        = IntOp.cmpi .eq (IntOp.subi (FloatOps.fptosi (F := Ideal) (φ := .f32) 32 (Ideal.liftRound Int.floor (k0_pay12 v17 v64 v65 v66 v78 v79 (ix2 n 0)))) 1#32)
            (BitVec.ofNat 32 i.val) := by
    intro v17 v64 v65 v66 v78 v79
    pointwise [k0_pay18, k0_pay16, k0_pay13]
  have hle := row_le a0 a1 n
  have hi := i.isLt
  have hw : IntOp.subi (BitVec.ofNat 32 (row (act a0 a1) n.val)) 1#32 = BitVec.ofNat 32 i.val
      ↔ row (act a0 a1) n.val = i.val + 1 := by
    show BitVec.ofNat 32 (row (act a0 a1) n.val) - 1#32 = BitVec.ofNat 32 i.val ↔ _
    constructor
    · intro h
      have h' : BitVec.ofNat 32 (row (act a0 a1) n.val) = BitVec.ofNat 32 (i.val + 1) := by
        rw [BitVec.ofNat_add, ← h, BitVec.sub_add_cancel]
      exact (word_inj hle (by omega)).1 h'
    · intro h
      rw [h, BitVec.ofNat_add, BitVec.add_sub_cancel]
  rw [key, rowWord_apply, WordCmp.cmpi_eq_eq]
  exact congrArg BitVec.ofBool (decide_eq_decide.2 hw)

/-- The kernel's output: each place of row `i` gathers the shares of all the entries. -/
theorem kernel_apply (a0 : Vec Ideal S4096x64 .f32) (a1 : Vec Ideal S64x1 .f32) (i : Fin 4096) (d : Fin 64) :
    Cert.KernelIdeal.Value.G2 (F := Ideal) a0 a1 (ix2 i d) = ∑ n : Fin 4096, share (act a0 a1) i.val n.val (a0 (ix2 n d)) := by
  have key : ∀ (v0 : Vec Ideal S4096x64 .f32) (v112 v113 : FVec Ideal S4096x1 .f32) (v120 : FVec Ideal S4096x4096 .f32)
      (v124 : IVec S4096x4096 1) (z : Ideal .f32) (v125 : FVec Ideal S4096x4096 .f32),
      k0_pay1 v0 v112 v113 v120 v124 z v125 (ix2 i d) = ∑ x, v120 (ix2 x i) * (v112 (ix2 x 0) * v0 (ix2 x d))
        + ∑ x, Scalar.select (v124 (ix2 x i)) (v125 (ix2 x i)) z * (v113 (ix2 x 0) * v0 (ix2 x d)) := by
    intro v0 v112 v113 v120 v124 z v125
    pointwise [k0_pay1]
  have hone : ∀ n : Fin 4096, k0_pay19 (F := Ideal) (ix2 n i) = 1 := fun n => by pointwise [k0_pay19]
  have hzero : (Scalar.ofBits .f32 0x00000000#32 : Ideal .f32) = (0 : EReal) := by simp
  unfold Cert.KernelIdeal.Value.G2
  rw [key, ← Finset.sum_add_distrib]
  refine Finset.sum_congr rfl fun n _ => ?_
  rw [hit_apply, before_apply, stay_apply, rest_apply, hone, hzero, select_ofBool, share]
  simp only [ite_mul, one_mul, zero_mul]

end Cert.Warp

end
-- ==== Proof.HostOps.lean ====
/- The host's running sum and the host's accumulating scatter by pairs of index words, read at one index over the
   extended reals, at any size. -/
module

public import proofs.«01_k».proof.Proof.Prefix
public import Idealize.ShloMosaic.Lib.Pointwise
public import Idealize.ShloMosaic.Lib.Routing.OpsPair

@[expose] public section

noncomputable section

namespace Cert.Warp

open Idealize.ShloMosaic
open scoped BigOperators

/-- A left fold of additions is the start plus the sum of what is added. -/
theorem foldl_add_eq {ι : Type*} (g : ι → EReal) (L : List ι) (v : EReal) :
    L.foldl (fun r n => r + g n) v = v + (L.map g).sum := by
  induction L generalizing v with
  | nil => simp
  | cons a L ih => rw [List.foldl_cons, ih, List.map_cons, List.sum_cons, add_assoc]

/-- `jnp.cumsum` of a vector whose entries are the reals `f 0, f 1, …`: entry `j` of the result is `f 0 + … + f j`. -/
theorem cumsum_apply {N M : ℕ} (hN : N = M + 1) (x : FVec Ideal (⟨1, ![N]⟩ : Shape) .f32) (f : ℕ → ℝ)
    (hx : ∀ i : Fin N, x (ix1 i) = ((f i.val : ℝ) : EReal)) (init : FVec Ideal (⟨0, ![]⟩ : Shape) .f32)
    (hinit : ∀ i, init i = 0)
    (h : (⟨1, ![N]⟩ : Shape).ReduceWindows ![N] ![1] ![M] ![0] (⟨1, ![N]⟩ : Shape)) (hu : 0 < (⟨0, ![]⟩ : Shape).numel)
    (j : Fin N) :
    Host.reduceWindowAdd ![N] ![1] ![M] ![0] x init h hu (ix1 j) = ((pre f (j.val + 1) : ℝ) : EReal) := by
  have hj := j.isLt
  have hnum : (⟨1, ![N]⟩ : Shape).numel = N := by simp [Shape.numel]
  unfold Host.reduceWindowAdd
  rw [Ideal.hostReduceWindowAdd_def, hinit]
  unfold Ideal.hostReduceWindowAdd Host.reduceWindow
  let g : ℕ → ℝ := fun n => if M ≤ j.val + n then f (j.val + n - M) else 0
  have hw : ∀ n : Fin (⟨1, ![N]⟩ : Shape).numel, ((⟨1, ![N]⟩ : Shape).rowMajor.symm n 0).val = n.val := fun n => by
    rw [← Shape.rowMajor_val_one, Equiv.apply_symm_apply]
  have hsum : ∑ n ∈ Finset.range N, g n = pre f (j.val + 1) := by
    rw [← win_full f N j.val hj, win, ← Finset.sum_range_reflect]
    refine Finset.sum_congr rfl fun k hk => ?_
    have hk' := Finset.mem_range.1 hk
    show (if M ≤ j.val + (N - 1 - k) then f (j.val + (N - 1 - k) - M) else 0) = _
    by_cases hkj : k ≤ j.val
    · rw [if_pos hkj, if_pos (by omega), show j.val + (N - 1 - k) - M = j.val - k by omega]
    · rw [if_neg hkj, if_neg (by omega)]
  have hfold := foldl_add_eq (fun n : Fin (⟨1, ![N]⟩ : Shape).numel => ((g n.val : ℝ) : EReal)) (List.finRange _) 0
  have htot : (∑ n : Fin (⟨1, ![N]⟩ : Shape).numel, ((g n.val : ℝ) : EReal)) = ((pre f (j.val + 1) : ℝ) : EReal) := by
    rw [← coe_sum, Fin.sum_univ_eq_sum_range g, hnum, hsum]
  rw [zero_add, ← Fin.sum_univ_def, htot] at hfold
  refine Eq.trans ?_ hfold
  refine congrArg (fun h => List.foldl h (0 : EReal) (List.finRange (⟨1, ![N]⟩ : Shape).numel)) ?_
  funext r n
  dsimp only
  have hn : n.val < N := lt_of_lt_of_eq n.isLt hnum
  have hq : (j.val * 1 + ((⟨1, ![N]⟩ : Shape).rowMajor.symm n 0).val) = j.val + n.val := by rw [hw, Nat.mul_one]
  congr 1
  split
  · next hin =>
    have h0 := hin 0
    change M ≤ j.val * 1 + ((⟨1, ![N]⟩ : Shape).rowMajor.symm n 0).val
      ∧ j.val * 1 + ((⟨1, ![N]⟩ : Shape).rowMajor.symm n 0).val - M < N at h0
    rw [hq] at h0
    show _ = ((if M ≤ j.val + n.val then f (j.val + n.val - M) else 0 : ℝ) : EReal)
    rw [if_pos h0.1]
    refine (congrArg x (funext fun a => Fin.ext ?_)).trans (hx ⟨j.val + n.val - M, h0.2⟩)
    match a with
    | ⟨0, _⟩ =>
      show j.val * 1 + ((⟨1, ![N]⟩ : Shape).rowMajor.symm n 0).val - M = j.val + n.val - M
      rw [hq]
  · next hin =>
    show _ = ((if M ≤ j.val + n.val then f (j.val + n.val - M) else 0 : ℝ) : EReal)
    rw [if_neg fun hle => hin fun a => by
      match a with
      | ⟨0, _⟩ =>
        show M ≤ j.val * 1 + ((⟨1, ![N]⟩ : Shape).rowMajor.symm n 0).val
          ∧ j.val * 1 + ((⟨1, ![N]⟩ : Shape).rowMajor.symm n 0).val - M < N
        rw [hq]; omega]
    rfl

/-- Update `n` of a scatter of `N` scalars into a matrix by one pair of index words each lands at `(r, c)` exactly when its
    two words, read signed, are `r` and `c`. -/
theorem lands_iff {R C N w : ℕ} (d : ScatterDims (⟨2, ![R, C]⟩ : Shape) (⟨2, ![N, 2]⟩ : Shape) (⟨1, ![N]⟩ : Shape))
    (hu : d.updateWindowDims = []) (hi : d.insertedWindowDims = [0, 1]) (hs : d.scatterDimsToOperandDims = [0, 1])
    (hv : d.indexVectorDim = 1) (idx : IVec (⟨2, ![N, 2]⟩ : Shape) w) (n : Fin N) (r : Fin R) (c : Fin C) :
    d.resultIdx? (ix1 n) idx = some (ix2 r c) ↔ (idx (ix2 n 0)).toInt = r.val ∧ (idx (ix2 n 1)).toInt = c.val := by
  obtain ⟨du, di, ds, dv, wf⟩ := d
  cases hu; cases hi; cases hs; cases hv
  have hwin : ∀ q, ScatterDims.window (⟨[], [0, 1], [0, 1], 1, wf⟩ : ScatterDims (⟨2, ![R, C]⟩ : Shape) (⟨2, ![N, 2]⟩ : Shape) (⟨1, ![N]⟩ : Shape)) (ix1 n) q = 0 := by
    intro q
    unfold ScatterDims.window
    exact dif_neg fun h => (of_decide_eq_true (List.mem_filter.1 h).2) (by
      match q with
      | ⟨0, _⟩ => simp
      | ⟨1, _⟩ => simp)
  have hst : ∀ q : Fin 2, ScatterDims.start (⟨[], [0, 1], [0, 1], 1, wf⟩ : ScatterDims (⟨2, ![R, C]⟩ : Shape) (⟨2, ![N, 2]⟩ : Shape) (⟨1, ![N]⟩ : Shape)) (ix1 n) idx q = (idx (ix2 n q)).toInt := by
    intro q
    unfold ScatterDims.start
    rw [dif_pos (by match q with
      | ⟨0, _⟩ => simp
      | ⟨1, _⟩ => simp)]
    refine congrArg (fun i => (idx i).toInt) (funext fun b => ?_)
    match q, b with
    | ⟨0, _⟩, ⟨0, _⟩ => rfl
    | ⟨0, _⟩, ⟨1, _⟩ => rfl
    | ⟨1, _⟩, ⟨0, _⟩ => rfl
    | ⟨1, _⟩, ⟨1, _⟩ => rfl
  rw [Routing.resultIdx?_eq_some]
  constructor
  · intro h
    have h0 := h 0
    have h1 := h 1
    rw [hwin, hst] at h0 h1
    exact ⟨(add_zero _).symm.trans h0, (add_zero _).symm.trans h1⟩
  · rintro ⟨h0, h1⟩ q
    rw [hwin, hst]
    match q with
    | ⟨0, _⟩ => exact (add_zero _).trans h0
    | ⟨1, _⟩ => exact (add_zero _).trans h1

/-- A scatter whose update `n` goes to row `q` of column `n`, every update staying in its own column: an entry of column `n`
    keeps what it held, and gains update `n` when it is in the row that update goes to. -/
theorem scatter_apply {R N w : ℕ} (d : ScatterDims (⟨2, ![R, N]⟩ : Shape) (⟨2, ![N, 2]⟩ : Shape) (⟨1, ![N]⟩ : Shape))
    (hu : d.updateWindowDims = []) (hi : d.insertedWindowDims = [0, 1]) (hs : d.scatterDimsToOperandDims = [0, 1])
    (hv : d.indexVectorDim = 1) (x : FVec Ideal (⟨2, ![R, N]⟩ : Shape) .f32) (idx : IVec (⟨2, ![N, 2]⟩ : Shape) w)
    (upd : FVec Ideal (⟨1, ![N]⟩ : Shape) .f32) (i : Fin R) (n : Fin N) (q : ℕ)
    (hrow : (idx (ix2 n 0)).toInt = (q : ℤ)) (hcol : ∀ j : Fin N, (idx (ix2 j 1)).toInt = (j.val : ℤ)) :
    Host.scatterAdd d x idx upd (ix2 i n) = x (ix2 i n) + (if q = i.val then upd (ix1 n) else 0) := by
  unfold Host.scatterAdd
  rw [Ideal.hostScatterAdd_def]
  unfold Ideal.hostScatterAdd
  congr 1
  rw [Finset.sum_filter, Finset.sum_eq_single (ix1 n)]
  · refine if_congr ?_ rfl rfl
    rw [lands_iff d hu hi hs hv, hrow, hcol]
    omega
  · intro j _ hj
    obtain ⟨k, rfl⟩ : ∃ k : Fin N, j = ix1 k := ⟨j 0, by
      funext a
      match a with
      | ⟨0, _⟩ => rfl⟩
    refine if_neg fun hland => hj ?_
    have h1 := ((lands_iff d hu hi hs hv idx k i n).1 hland).2
    rw [hcol] at h1
    exact congrArg ix1 (Fin.ext (by exact_mod_cast h1))
  · exact fun h => absurd (Finset.mem_univ _) h

end Cert.Warp

end
-- ==== Proof.Warped.lean ====
/- The reference's values, stage by stage, read at an index: the gates, their running sum, the rows, the crossings, the two
   scatters that fill the matrix, and the product. -/
module

public import proofs.«01_k».proof.Proof.Gate
public import proofs.«01_k».proof.Proof.HostOps
public import proofs.«01_k».proof.Proof.Gen.ReferenceIdeal.Run
public import Idealize.ShloMosaic.Lib.WordCmp

@[expose] public section

set_option maxRecDepth 16384

noncomputable section

namespace Cert.Warp

open Idealize.ShloMosaic Cert.ReferenceIdeal Cert.ReferenceIdeal.Gen
open scoped BigOperators

/-- The reference's gates. -/
def refGates (x : FVec Ideal S4096x64 .f32) (w : FVec Ideal S64x1 .f32) : FVec Ideal S4096 .f32 :=
  shapeCast S4096 (Host.divf (broadcastInDim S4096x1 ![] bcast_S_S4096x1 (constant S_ .f32 0x3F800000#32))
    (addf (broadcastInDim S4096x1 ![] bcast_S_S4096x1 (constant S_ .f32 0x3F800000#32))
      (Host.exp (Host.negf (Host.dotGeneral dot_S4096x64_S64x1_S4096x1_1_0_0_1_n_n none x w))))) shapeCasts_S4096x1_S4096

/-- The running sum of a vector. -/
def refSums (a : FVec Ideal S4096 .f32) : FVec Ideal S4096 .f32 :=
  Host.reduceWindowAdd ![4096] ![1] ![4095] ![0] a (broadcastInDim S_ ![] bcast_S_S_ (constant S_ .f32 0x00000000#32))
    reduceWindows_S4096_S4096_w4096s1p4095_0 h_S_

/-- The words of the whole parts. -/
def refRows (b : FVec Ideal S4096 .f32) : IVec S4096 32 := fptosi 32 (Host.floor b)

/-- Where the row differs from the one of the entry before, the first entry compared with row 0. -/
def refCross (r : IVec S4096 32) : IVec S4096 1 :=
  cmpi .ne r (concatenate S4096 0 [⟨S1, (broadcastInDim S1 ![] bcast_S_S1 (constantI S_ 32 0#32))⟩,
    ⟨S4095, (extractStridedSlice S4095 ![0] r slices_S4096_S4095_0)⟩] concatenates_S1_S4095_S4096_d0)

/-- The fractions. -/
def refFrac (b : FVec Ideal S4096 .f32) (r : IVec S4096 32) : FVec Ideal S4096 .f32 := subf b (sitofp .f32 r)

/-- The index pairs of a scatter: the given row, a negative one counted from the end, and the entry's own column. -/
def refPairs (r : IVec S4096 32) : IVec S4096x2 32 :=
  concatenate S4096x2 1 [⟨S4096x1, (broadcastInDim S4096x1 ![0] bcast_S4096_S4096x1_0
      (select (cmpi .slt r (broadcastInDim S4096 ![] bcast_S_S4096 (constantI S_ 32 0#32)))
        (addi r (broadcastInDim S4096 ![] bcast_S_S4096 (constantI S_ 32 4096#32))) r))⟩,
    ⟨S4096x1, (broadcastInDim S4096x1 ![0] bcast_S4096_S4096x1_0
      (select (cmpi .slt (iotaInDim S4096 32 0) (broadcastInDim S4096 ![] bcast_S_S4096 (constantI S_ 32 0#32)))
        (addi (iotaInDim S4096 32 0) (broadcastInDim S4096 ![] bcast_S_S4096 (constantI S_ 32 4096#32))) (iotaInDim S4096 32 0)))⟩]
    concatenates_S4096x1_S4096x1_S4096x2_d1

/-- The row before, for an entry that crosses; row 0 for another. -/
def refBefore (r : IVec S4096 32) : IVec S4096 32 :=
  select (refCross r) (subi r (broadcastInDim S4096 ![] bcast_S_S4096 (constantI S_ 32 1#32)))
    (broadcastInDim S4096 ![] bcast_S_S4096 (constantI S_ 32 0#32))

/-- What each entry puts into its row. -/
def refStay (a b : FVec Ideal S4096 .f32) (r : IVec S4096 32) : FVec Ideal S4096 .f32 :=
  select (refCross r) (refFrac b r) a

/-- What each entry puts into the row before. -/
def refRest (a b : FVec Ideal S4096 .f32) (r : IVec S4096 32) : FVec Ideal S4096 .f32 :=
  select (refCross r) (subf a (refFrac b r)) (broadcastInDim S4096 ![] bcast_S_S4096 (constant S_ .f32 0x00000000#32))

/-- The matrix the two scatters fill. -/
def refMatrix (a b : FVec Ideal S4096 .f32) (r : IVec S4096 32) : FVec Ideal S4096x4096 .f32 :=
  Host.scatterAdd scatter_S4096x4096_S4096x2_S4096_n_01_01_1
    (Host.scatterAdd scatter_S4096x4096_S4096x2_S4096_n_01_01_1
      (broadcastInDim S4096x4096 ![] bcast_S_S4096x4096 (constant S_ .f32 0x00000000#32)) (refPairs r) (refStay a b r))
    (refPairs (refBefore r)) (refRest a b r)

/-- The reference's gates are the gates. -/
theorem refGates_apply (x : FVec Ideal S4096x64 .f32) (w : FVec Ideal S64x1 .f32) (n : Fin 4096) :
    refGates x w (ix1 n) = (act x w n.val : EReal) := by
  have key : refGates x w (ix1 n) = Ideal.div 1 (1 + Ideal.exp (-∑ k, x (ix2 n k) * w (ix2 k 0))) := by
    pointwise [refGates]
  rw [key, ← act_eq]
  rfl

/-- Their running sum. -/
theorem refSums_apply (x : FVec Ideal S4096x64 .f32) (w : FVec Ideal S64x1 .f32) (n : Fin 4096) :
    refSums (refGates x w) (ix1 n) = ((pre (act x w) (n.val + 1) : ℝ) : EReal) := by
  have hz : ∀ i, (broadcastInDim S_ ![] bcast_S_S_ (constant (F := Ideal) S_ .f32 0x00000000#32) : FVec Ideal S_ .f32) i = 0 := by
    intro i
    pointwise
  unfold refSums
  exact cumsum_apply (N := 4096) (M := 4095) rfl (refGates x w) (act x w) (refGates_apply x w) _ hz
    reduceWindows_S4096_S4096_w4096s1p4095_0 h_S_ n

/-- The word of the row of each entry. -/
theorem refRows_apply (x : FVec Ideal S4096x64 .f32) (w : FVec Ideal S64x1 .f32) (n : Fin 4096) :
    refRows (refSums (refGates x w)) (ix1 n) = BitVec.ofNat 32 (row (act x w) n.val) := by
  have h := pre_act_bounds x w (n.val + 1) (by omega)
  have key : ∀ b : FVec Ideal S4096 .f32, refRows b (ix1 n)
      = FloatOps.fptosi (F := Ideal) (φ := .f32) 32 (Ideal.liftRound Int.floor (b (ix1 n))) := by
    intro b
    pointwise [refRows]
  rw [key, refSums_apply]
  exact word_floor _ h.1 h.2

/-- The crossings. -/
theorem refCross_apply (x : FVec Ideal S4096x64 .f32) (w : FVec Ideal S64x1 .f32) (n : Fin 4096) :
    refCross (refRows (refSums (refGates x w))) (ix1 n) = BitVec.ofBool (decide (crosses (act x w) n.val)) := by
  have key : ∀ r : IVec S4096 32, refCross r (ix1 n)
      = IntOp.cmpi .ne (r (ix1 n)) (if h : n.val < 1 then 0#32 else r (ix1 ⟨n.val - 1, by omega⟩)) := by
    intro r
    pointwise [refCross]
  have hprev : (if h : n.val < 1 then 0#32 else refRows (refSums (refGates x w)) (ix1 ⟨n.val - 1, by omega⟩))
      = BitVec.ofNat 32 ⌊pre (act x w) n.val⌋₊ := by
    split
    · next h =>
      rw [show n.val = 0 by omega]
      simp [pre]
    · next h =>
      rw [refRows_apply, row]
      show BitVec.ofNat 32 ⌊pre (act x w) (n.val - 1 + 1)⌋₊ = _
      rw [show n.val - 1 + 1 = n.val by omega]
  have h1 := row_le x w n
  have h0 : ⌊pre (act x w) n.val⌋₊ ≤ 4096 :=
    Nat.floor_le_of_le (by exact_mod_cast (pre_act_bounds x w n.val (by omega)).2)
  rw [key, hprev, refRows_apply, WordCmp.cmpi_ne_ofNat (by omega) (by omega)]
  rfl

/-- The fractions. -/
theorem refFrac_apply (x : FVec Ideal S4096x64 .f32) (w : FVec Ideal S64x1 .f32) (n : Fin 4096) :
    refFrac (refSums (refGates x w)) (refRows (refSums (refGates x w))) (ix1 n)
      = ((pre (act x w) (n.val + 1) - (row (act x w) n.val : ℝ) : ℝ) : EReal) := by
  refine Eq.trans (b := refSums (refGates x w) (ix1 n)
    - (((refRows (refSums (refGates x w)) (ix1 n)).toInt : ℝ) : EReal)) rfl ?_
  rw [refSums_apply, refRows_apply, toInt_word _ (row_le x w n), Int.cast_natCast, ← EReal.coe_sub]

/-- What each entry puts into its row. -/
theorem refStay_apply (x : FVec Ideal S4096x64 .f32) (w : FVec Ideal S64x1 .f32) (n : Fin 4096) :
    refStay (refGates x w) (refSums (refGates x w)) (refRows (refSums (refGates x w))) (ix1 n)
      = (stay (act x w) n.val : EReal) := by
  refine Eq.trans (b := Scalar.select (refCross (refRows (refSums (refGates x w))) (ix1 n))
    (refFrac (refSums (refGates x w)) (refRows (refSums (refGates x w))) (ix1 n)) (refGates x w (ix1 n))) rfl ?_
  rw [refCross_apply, refFrac_apply, refGates_apply, select_ofBool, stay]
  split <;> rfl

/-- What each entry puts into the row before. -/
theorem refRest_apply (x : FVec Ideal S4096x64 .f32) (w : FVec Ideal S64x1 .f32) (n : Fin 4096) :
    refRest (refGates x w) (refSums (refGates x w)) (refRows (refSums (refGates x w))) (ix1 n)
      = (rest (act x w) n.val : EReal) := by
  have key : ∀ (a b : FVec Ideal S4096 .f32) (r : IVec S4096 32), refRest a b r (ix1 n)
      = Scalar.select (refCross r (ix1 n)) (a (ix1 n) - refFrac b r (ix1 n)) 0 := by
    intro a b r
    pointwise [refRest]
  rw [key, refCross_apply, refFrac_apply, refGates_apply, select_ofBool]
  by_cases h : crosses (act x w) n.val
  · rw [if_pos h, rest, stay, if_pos h, ← EReal.coe_sub]
  · rw [if_neg h, rest_of_not_crosses h, EReal.coe_zero]

/-- The row the rest of each entry goes to. -/
theorem refBefore_apply (x : FVec Ideal S4096x64 .f32) (w : FVec Ideal S64x1 .f32) (n : Fin 4096) :
    refBefore (refRows (refSums (refGates x w))) (ix1 n)
      = BitVec.ofNat 32 (if crosses (act x w) n.val then row (act x w) n.val - 1 else 0) := by
  have key : ∀ r : IVec S4096 32, refBefore r (ix1 n)
      = Scalar.select (refCross r (ix1 n)) (IntOp.subi (r (ix1 n)) 1#32) 0#32 := by
    intro r
    pointwise [refBefore]
  rw [key, refCross_apply, refRows_apply, select_ofBool]
  by_cases h : crosses (act x w) n.val
  · rw [if_pos h, if_pos h]
    have hpos := row_pos_of_crosses (act_bounds x w) h
    show BitVec.ofNat 32 (row (act x w) n.val) - 1#32 = _
    obtain ⟨k, hk⟩ : ∃ k, row (act x w) n.val = k + 1 := ⟨row (act x w) n.val - 1, by omega⟩
    rw [hk, BitVec.ofNat_add, BitVec.add_sub_cancel, Nat.add_sub_cancel]
  · rw [if_neg h, if_neg h]

/-- The index pairs: a row up to 4096 stands for itself, and the column is the entry's own. -/
theorem refPairs_apply (r : IVec S4096 32) (n : Fin 4096) :
    (∀ q, q ≤ 4096 → r (ix1 n) = BitVec.ofNat 32 q → (refPairs r (ix2 n 0)).toInt = (q : ℤ))
      ∧ (refPairs r (ix2 n 1)).toInt = (n.val : ℤ) := by
  have hn := n.isLt
  have hword : ∀ q, q ≤ 4096 → (Scalar.select (IntOp.cmpi .slt (BitVec.ofNat 32 q) 0#32)
      (IntOp.addi (BitVec.ofNat 32 q) 4096#32) (BitVec.ofNat 32 q)).toInt = (q : ℤ) := by
    intro q hq
    rw [WordCmp.cmpi_slt_ofNat (by omega) (by omega), select_ofBool, if_neg (by omega), toInt_word q hq]
  constructor
  · intro q hq hr
    have key : refPairs r (ix2 n 0)
        = Scalar.select (IntOp.cmpi .slt (r (ix1 n)) 0#32) (IntOp.addi (r (ix1 n)) 4096#32) (r (ix1 n)) := by
      pointwise [refPairs]
    rw [key, hr, hword q hq]
  · have key : refPairs r (ix2 n 1)
        = Scalar.select (IntOp.cmpi .slt (BitVec.ofNat 32 n.val) 0#32) (IntOp.addi (BitVec.ofNat 32 n.val) 4096#32)
          (BitVec.ofNat 32 n.val) := by
      pointwise [refPairs]
    rw [key, hword n.val (by omega)]

/-- An entry of the matrix. -/
theorem refMatrix_apply (x : FVec Ideal S4096x64 .f32) (w : FVec Ideal S64x1 .f32) (i n : Fin 4096) :
    refMatrix (refGates x w) (refSums (refGates x w)) (refRows (refSums (refGates x w))) (ix2 i n)
      = (if row (act x w) n.val = i.val then (stay (act x w) n.val : EReal) else 0)
        + (if (if crosses (act x w) n.val then row (act x w) n.val - 1 else 0) = i.val then (rest (act x w) n.val : EReal) else 0) := by
  have hle := row_le x w n
  have hz : (broadcastInDim S4096x4096 ![] bcast_S_S4096x4096 (constant (F := Ideal) S_ .f32 0x00000000#32) : FVec Ideal S4096x4096 .f32)
      (ix2 i n) = 0 := by pointwise
  unfold refMatrix
  rw [scatter_apply scatter_S4096x4096_S4096x2_S4096_n_01_01_1 rfl rfl rfl rfl _ _ _ i n
      (if crosses (act x w) n.val then row (act x w) n.val - 1 else 0)
      ((refPairs_apply _ n).1 _ (by split <;> omega) (refBefore_apply x w n)) (fun j => (refPairs_apply _ j).2),
    scatter_apply scatter_S4096x4096_S4096x2_S4096_n_01_01_1 rfl rfl rfl rfl _ _ _ i n (row (act x w) n.val)
      ((refPairs_apply _ n).1 _ hle (refRows_apply x w n)) (fun j => (refPairs_apply _ j).2),
    refStay_apply, refRest_apply, hz, zero_add]

/-- Multiplying an entry of the matrix gives the entry's share: of its two terms at most one is not 0. -/
theorem matrix_mul (f : ℕ → ℝ) (hf : ∀ k, 0 ≤ f k ∧ f k ≤ 1) (i n : ℕ) (y : EReal) :
    ((if row f n = i then (stay f n : EReal) else 0)
      + (if (if crosses f n then row f n - 1 else 0) = i then (rest f n : EReal) else 0)) * y = share f i n y := by
  unfold share
  by_cases hc : crosses f n
  · have hpos := row_pos_of_crosses hf hc
    rw [if_pos hc]
    by_cases h1 : row f n = i
    · rw [if_pos h1, if_neg (by omega), if_pos h1, if_neg (by omega), add_zero, add_zero]
    · by_cases h2 : row f n = i + 1
      · rw [if_neg h1, if_pos (by omega), if_neg h1, if_pos h2, zero_add, zero_add]
      · rw [if_neg h1, if_neg (by omega), if_neg h1, if_neg h2, zero_add, zero_mul]
  · rw [rest_of_not_crosses hc, EReal.coe_zero, zero_mul]
    simp only [ite_self, add_zero, ite_mul, zero_mul]

/-- The reference's output: each place of row `i` gathers the shares of all the entries. -/
theorem reference_apply (x : FVec Ideal S4096x64 .f32) (w : FVec Ideal S64x1 .f32) (i : Fin 4096) (d : Fin 64) :
    Host.dotGeneral dot_S4096x4096_S4096x64_S4096x64_1_0_0_1_n_n none
        (refMatrix (refGates x w) (refSums (refGates x w)) (refRows (refSums (refGates x w)))) x (ix2 i d)
      = ∑ n : Fin 4096, share (act x w) i.val n.val (x (ix2 n d)) := by
  have key : ∀ A : FVec Ideal S4096x4096 .f32,
      Host.dotGeneral dot_S4096x4096_S4096x64_S4096x64_1_0_0_1_n_n none A x (ix2 i d) = ∑ n, A (ix2 i n) * x (ix2 n d) := by
    intro A
    pointwise
  rw [key]
  exact Finset.sum_congr rfl fun n _ => by rw [refMatrix_apply, matrix_mul (act x w) (act_bounds x w)]

open Idealize.SL.Sem in
/-- The reference's result is the product of the filled matrix with the inputs. -/
theorem result_eq (m : (ℓ : Loc nD τ sig) → Buf (Elt Ideal) ℓ) (c : Dev nD) (x : FVec Ideal S4096x64 .f32)
    (w : FVec Ideal S64x1 .f32) (hx : m ((c.tc : Thread nD τ).loc main_arg0) = x) (hw : m ((c.tc : Thread nD τ).loc main_arg1) = w) :
    Cert.ReferenceIdeal.Value.res_out0 (F := Ideal) m c
      = Host.dotGeneral (F := Ideal) (φ₁ := .f32) (φ₂ := .f32) dot_S4096x4096_S4096x64_S4096x64_1_0_0_1_n_n none
        (refMatrix (refGates x w) (refSums (refGates x w)) (refRows (refSums (refGates x w)))) x := by
  subst hx hw
  rfl

end Cert.Warp

end
-- ==== Proof.lean ====
/- The proof of the claim: the frames from the generated runs, and the equation of the two outputs, which both gather at each
   place the shares of all the entries (`kernel_apply`, `reference_apply`). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Column
public import proofs.«01_k».proof.Proof.Warped

@[expose] public section

noncomputable section

namespace Cert.Proof

open Idealize.ShloMosaic Idealize.SL.Sem

/-- The reference ends with its arguments as they were and no counter raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the kernel's function of the same arguments. -/
theorem outputs_eq (m' : (ℓ : Loc Cert.ReferenceIdeal.nD Cert.ReferenceIdeal.τ Cert.ReferenceIdeal.sig) → Buf (Elt Ideal) ℓ)
    (c : Dev Cert.ReferenceIdeal.nD) (x : FVec Ideal Cert.ReferenceIdeal.S4096x64 .f32)
    (w : FVec Ideal Cert.ReferenceIdeal.S64x1 .f32)
    (hx : m' ((c.tc : Thread Cert.ReferenceIdeal.nD Cert.ReferenceIdeal.τ).loc Cert.ReferenceIdeal.main_arg0) = x)
    (hw : m' ((c.tc : Thread Cert.ReferenceIdeal.nD Cert.ReferenceIdeal.τ).loc Cert.ReferenceIdeal.main_arg1) = w) :
    Cert.ReferenceIdeal.Value.res_out0 (F := Ideal) m' c = Cert.KernelIdeal.Value.G2 (F := Ideal) x w := by
  rw [Cert.Warp.result_eq m' c x w hx hw]
  funext j
  obtain ⟨i, d, rfl⟩ : ∃ (i : Fin 4096) (d : Fin 64), j = ix2 i d := ⟨j 0, j 1, by
    funext a
    match a with
    | ⟨0, _⟩ => rfl
    | ⟨1, _⟩ => rfl⟩
  rw [Cert.Warp.reference_apply]
  exact (Cert.Warp.kernel_apply x w i d).symm

/-- Over the extended reals, from memories that agree on the arguments, the kernel ends with the reference's result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact outputs_eq m' c _ _ (hagree c).1 (hagree c).2

/-- The claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
